-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x4096x256 : Shape := ⟨3, ![32, 4096, 256]⟩
abbrev S256 : Shape := ⟨1, ![256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel

variable [Facts]

def fn {F : FTy → Type} [FloatOps F] (main_arg0 : FVec F S32x4096x256 .f32) (main_arg1 : FVec F S256 .f32) (main_arg2 : FVec F S256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  main_v3
-- ==== Kernel.lean ====
abbrev S32x4096x256 : Shape := ⟨3, ![32, 4096, 256]⟩
abbrev S256 : Shape := ⟨1, ![256]⟩
abbrev S1x256 : Shape := ⟨2, ![1, 256]⟩
abbrev S2x4096x256 : Shape := ⟨3, ![2, 4096, 256]⟩
abbrev S128x256 : Shape := ⟨2, ![128, 256]⟩
abbrev S128x1 : Shape := ⟨2, ![128, 1]⟩
abbrev S128x128 : Shape := ⟨2, ![128, 128]⟩
abbrev S1x128x256 : Shape := ⟨3, ![1, 128, 256]⟩
abbrev S128x512 : Shape := ⟨2, ![128, 512]⟩
abbrev S256x512 : Shape := ⟨2, ![256, 512]⟩

abbrev nBuf : Space → Nat
  | .hbm => 6
  | .vmem => 6
  | .smem => 0
  | _ => 0

abbrev bufTy : (tb : Table) → Fin (tcTables nBuf tb) → BufTy
  | .hbm, ⟨0, _⟩ => ⟨S32x4096x256, .f32⟩
  | .hbm, ⟨1, _⟩ => ⟨S256, .f32⟩
  | .hbm, ⟨2, _⟩ => ⟨S256, .f32⟩
  | .hbm, ⟨3, _⟩ => ⟨S1x256, .f32⟩
  | .hbm, ⟨4, _⟩ => ⟨S1x256, .f32⟩
  | .hbm, ⟨5, _⟩ => ⟨S32x4096x256, .f32⟩
  | .local _ .vmem, ⟨0, _⟩ => ⟨S2x4096x256, .f32⟩
  | .local _ .vmem, ⟨1, _⟩ => ⟨S2x4096x256, .f32⟩
  | .local _ .vmem, ⟨2, _⟩ => ⟨S1x256, .f32⟩
  | .local _ .vmem, ⟨3, _⟩ => ⟨S1x256, .f32⟩
  | .local _ .vmem, ⟨4, _⟩ => ⟨S2x4096x256, .f32⟩
  | .local _ .vmem, ⟨5, _⟩ => ⟨S2x4096x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x4096x256 : Shape := ⟨3, ![32, 4096, 256]⟩
abbrev S256 : Shape := ⟨1, ![256]⟩
abbrev S4096 : Shape := ⟨1, ![4096]⟩
abbrev S_ : Shape := ⟨0, ![]⟩
abbrev S32x4097x256 : Shape := ⟨3, ![32, 4097, 256]⟩
abbrev S4096x1 : Shape := ⟨2, ![4096, 1]⟩
abbrev S1x4096x1 : Shape := ⟨3, ![1, 4096, 1]⟩
abbrev S1x1x256 : Shape := ⟨3, ![1, 1, 256]⟩

abbrev nBuf : Space → Nat
  | .hbm => 98
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S256, .f32⟩
  | .hbm, ⟨2, _⟩ => ⟨S256, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .f32⟩
  | .hbm, ⟨15, _⟩ => ⟨S_, .f32⟩
  | .hbm, ⟨16, _⟩ => ⟨S32x4096x256, .f32⟩
  | .hbm, ⟨17, _⟩ => ⟨S32x4096x256, .f32⟩
  | .hbm, ⟨18, _⟩ => ⟨S_, .f32⟩
  | .hbm, ⟨19, _⟩ => ⟨S_, .f32⟩
  | .hbm, ⟨20, _⟩ => ⟨S32x4096x256, .f32⟩
  | .hbm, ⟨21, _⟩ => ⟨S_, .i32⟩
  | .hbm, ⟨22, _⟩ => ⟨S_, .f32⟩
  | .hbm, ⟨23, _⟩ => ⟨S32x4097x256, .f32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S32x4096x256, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S32x4096x256, .f32⟩
  | .hbm, ⟨45, _⟩ => ⟨S32x4096x256, .f32⟩
  | .hbm, ⟨46, _⟩ => ⟨S_, .i32⟩
  | .hbm, ⟨47, _⟩ => ⟨S_, .f32⟩
  | .hbm, ⟨48, _⟩ => ⟨S32x4097x256, .f32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S32x4096x256, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S32x4096x256, .f32⟩
  | .hbm, ⟨70, _⟩ => ⟨S32x4096x256, .f32⟩
  | .hbm, ⟨71, _⟩ => ⟨S4096, .i32⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S1x4096x1, .f32⟩
  | .hbm, ⟨80, _⟩ => ⟨S32x4096x256, .f32⟩
  | .hbm, ⟨81, _⟩ => ⟨S32x4096x256, .f32⟩
  | .hbm, ⟨82, _⟩ => ⟨S32x4096x256, .f32⟩
  | .hbm, ⟨83, _⟩ => ⟨S32x4096x256, .f32⟩
  | .hbm, ⟨84, _⟩ => ⟨S32x4096x256, .f32⟩
  | .hbm, ⟨85, _⟩ => ⟨S32x4096x256, .f32⟩
  | .hbm, ⟨86, _⟩ => ⟨S_, .f32⟩
  | .hbm, ⟨87, _⟩ => ⟨S32x4096x256, .f32⟩
  | .hbm, ⟨88, _⟩ => ⟨S32x4096x256, .f32⟩
  | .hbm, ⟨89, _⟩ => ⟨S32x4096x256, .f32⟩
  | .hbm, ⟨90, _⟩ => ⟨S32x4096x256, .f32⟩
  | .hbm, ⟨91, _⟩ => ⟨S32x4096x256, .f32⟩
  | .hbm, ⟨92, _⟩ => ⟨S1x1x256, .f32⟩
  | .hbm, ⟨93, _⟩ => ⟨S32x4096x256, .f32⟩
  | .hbm, ⟨94, _⟩ => ⟨S32x4096x256, .f32⟩
  | .hbm, ⟨95, _⟩ => ⟨S1x1x256, .f32⟩
  | .hbm, ⟨96, _⟩ => ⟨S32x4096x256, .f32⟩
  | .hbm, ⟨97, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_call1_call0_cst : Ref sig .tc := ⟨.hbm, 14, rfl⟩
abbrev main_call1_call0_v0 : Ref sig .tc := ⟨.hbm, 15, rfl⟩
abbrev main_v6 : Ref sig .tc := ⟨.hbm, 16, rfl⟩
abbrev main_v7 : Ref sig .tc := ⟨.hbm, 17, rfl⟩
abbrev main_call2_call0_cst : Ref sig .tc := ⟨.hbm, 18, rfl⟩
abbrev main_call2_call0_v0 : Ref sig .tc := ⟨.hbm, 19, rfl⟩
abbrev main_v8 : Ref sig .tc := ⟨.hbm, 20, rfl⟩
abbrev main_c_2 : Ref sig .tc := ⟨.hbm, 21, rfl⟩
abbrev main_call3_v0 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_c_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_8 : Ref sig .tc := ⟨.hbm, 46, rfl⟩
abbrev main_call4_v0 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_c_11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_12 : Ref sig .tc := ⟨.hbm, 61, rfl⟩
abbrev main_v37 : Ref sig .tc := ⟨.hbm, 62, rfl⟩
abbrev main_v38 : Ref sig .tc := ⟨.hbm, 63, rfl⟩
abbrev main_c_13 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_14 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== Proof.Window.lean ====
/- The mathematics of a causal moving window of 128 entries over a sequence of real numbers: window sums, window means,
   the normalized sequence, and the two ways of computing a window sum (as a difference of prefix sums, and as a
   banded sum over two neighbouring chunks of 128 entries). Nothing here names a program. -/
module

public import Mathlib.Algebra.BigOperators.Intervals
public import Mathlib.Algebra.BigOperators.Fin
public import Mathlib.Algebra.Order.BigOperators.Ring.Finset
public import Idealize.ShloMosaic.PureOps.Ideal

@[expose] public section

noncomputable section

namespace Cert.Proof.Window

/-- The sum of the window that ends at `t`: the entries `t - 127, …, t`, cut off at entry 0. -/
def wsum (f : ℕ → ℝ) (t : ℕ) : ℝ := ∑ s ∈ Finset.Ico (t - 127) (t + 1), f s

/-- The number of entries of the window that ends at `t`. -/
def count (t : ℕ) : ℝ := ((t + 1 - (t - 127) : ℕ) : ℝ)

/-- The mean over the window that ends at `t`. -/
def wmean (f : ℕ → ℝ) (t : ℕ) : ℝ := wsum f t / count t

/-- The variance over the window that ends at `t`: the mean of the squares less the square of the mean. -/
def wvar (f : ℕ → ℝ) (t : ℕ) : ℝ := wmean (fun s => f s * f s) t - wmean f t * wmean f t

/-- The number added to the variance: the single-precision float nearest `10⁻⁵`. -/
def eps : ℝ := 10995116 / 2 ^ 40

/-- Entry `t` of the normalized sequence: its distance from the window's mean, in units of the window's deviation. -/
def norm (f : ℕ → ℝ) (t : ℕ) : ℝ := (f t - wmean f t) / √(wvar f t + eps)

theorem eps_pos : 0 < eps := by unfold eps; positivity

/-- A window has at least one entry. -/
theorem count_pos (t : ℕ) : 0 < count t := by
  unfold count
  exact_mod_cast (by omega : 0 < t + 1 - (t - 127))

/-- A window within the first 128 entries has `t + 1` entries. -/
theorem count_of_lt {t : ℕ} (h : t < 128) : count t = (t : ℝ) + 1 := by
  unfold count
  rw [show t + 1 - (t - 127) = t + 1 by omega]
  push_cast
  rfl

/-- A window that ends later has 128 entries. -/
theorem count_of_le {t : ℕ} (h : 127 ≤ t) : count t = 128 := by
  unfold count
  rw [show t + 1 - (t - 127) = 128 by omega]
  norm_num

/-- A variance is not negative (Cauchy–Schwarz). -/
theorem wvar_nonneg (f : ℕ → ℝ) (t : ℕ) : 0 ≤ wvar f t := by
  have hc := count_pos t
  have h := Finset.sum_mul_sq_le_sq_mul_sq (Finset.Ico (t - 127) (t + 1)) (fun _ => 1) f
  simp only [one_mul, one_pow, Finset.sum_const, Nat.card_Ico, nsmul_eq_mul, mul_one] at h
  change wsum f t ^ 2 ≤ count t * _ at h
  have hs : wsum (fun s => f s * f s) t = ∑ i ∈ Finset.Ico (t - 127) (t + 1), f i ^ 2 :=
    Finset.sum_congr rfl fun i _ => (pow_two (f i)).symm
  rw [← hs] at h
  unfold wvar wmean
  rw [div_mul_div_comm, sub_nonneg, div_le_div_iff₀ (by positivity) hc]
  nlinarith

/-- A variance plus `eps` is positive. -/
theorem wvar_eps_pos (f : ℕ → ℝ) (t : ℕ) : 0 < wvar f t + eps :=
  add_pos_of_nonneg_of_pos (wvar_nonneg f t) eps_pos

/-- A window's sum is a difference of two prefix sums. -/
theorem prefix_sub (f : ℕ → ℝ) (t : ℕ) :
    ∑ s ∈ Finset.range (t + 1), f s - ∑ s ∈ Finset.range (t - 127), f s = wsum f t :=
  (Finset.sum_Ico_eq_sub f (by omega : t - 127 ≤ t + 1)).symm

/-- The entries above `r` of 128 consecutive ones that start at `c`. -/
theorem sum_above (f : ℕ → ℝ) (c r : ℕ) (hr : r < 128) :
    ∑ k : Fin 128, (if r < k.val then 1 else 0) * f (c + k.val) = ∑ s ∈ Finset.Ico (c + r + 1) (c + 128), f s := by
  rw [Fin.sum_univ_eq_sum_range (fun k => (if r < k then 1 else 0) * f (c + k)) 128]
  simp only [ite_mul, one_mul, zero_mul]
  rw [← Finset.sum_filter, show Finset.filter (fun k => r < k) (Finset.range 128) = Finset.Ico (r + 1) 128 by
    ext k; simp only [Finset.mem_filter, Finset.mem_range, Finset.mem_Ico]; omega]
  rw [Finset.sum_Ico_add f (r + 1) 128 c]
  congr 2 <;> omega

/-- The entries up to `r` of 128 consecutive ones that start at `c`. -/
theorem sum_upto (f : ℕ → ℝ) (c r : ℕ) (hr : r < 128) :
    ∑ k : Fin 128, (if k.val ≤ r then 1 else 0) * f (c + k.val) = ∑ s ∈ Finset.Ico c (c + r + 1), f s := by
  rw [Fin.sum_univ_eq_sum_range (fun k => (if k ≤ r then 1 else 0) * f (c + k)) 128]
  simp only [ite_mul, one_mul, zero_mul]
  rw [← Finset.sum_filter, show Finset.filter (fun k => k ≤ r) (Finset.range 128) = Finset.Ico 0 (r + 1) by
    ext k; simp only [Finset.mem_filter, Finset.mem_range, Finset.mem_Ico]; omega]
  rw [Finset.sum_Ico_add f 0 (r + 1) c]
  congr 2 <;> omega

/-- In the first chunk of 128 entries the window that ends at `r` is the entries up to `r`; its mean is their sum times
    `1 / (r + 1)`. -/
theorem first_mean (f : ℕ → ℝ) (r : ℕ) (hr : r < 128) :
    (∑ k : Fin 128, (if k.val ≤ r then 1 else 0) * f k.val) * (1 / ((r : ℝ) + 1)) = wmean f r := by
  have h := sum_upto f 0 r hr
  simp only [Nat.zero_add] at h
  unfold wmean wsum
  rw [h, count_of_lt hr, show r - 127 = 0 by omega]
  ring

/-- In a later chunk the window that ends at the chunk's entry `r` is the previous chunk's entries above `r` and the
    chunk's own up to `r`; its mean is the sum of them, each times `1 / 128`. -/
theorem step_mean (f : ℕ → ℝ) (c r : ℕ) (hr : r < 128) :
    ∑ k : Fin 128, (if r < k.val then 1 else 0) * (1 / 128) * f (c + k.val)
      + ∑ k : Fin 128, (if k.val ≤ r then 1 else 0) * (1 / 128) * f (c + 128 + k.val) = wmean f (c + 128 + r) := by
  have e : ∀ a b : ℝ, a * (1 / 128) * b = (1 / 128) * (a * b) := fun a b => by ring
  simp only [e]
  rw [← Finset.mul_sum, ← Finset.mul_sum, ← mul_add, sum_above f c r hr, sum_upto f (c + 128) r hr,
    Finset.sum_Ico_consecutive f (by omega) (by omega)]
  unfold wmean wsum
  rw [count_of_le (by omega), show c + 128 + r - 127 = c + r + 1 by omega]
  ring

end Cert.Proof.Window

end
-- ==== Proof.Extended.lean ====
/- Real numbers inside the extended reals: sums, the three constants the programs name, and the last step of the
   normalization as each program writes it — times a reciprocal square root, or divided by a square root. -/
module

public import proofs.«01_k».proof.Proof.Window
public import Idealize.ShloMosaic.Lib.IdealHost

@[expose] public section

noncomputable section

namespace Cert.Proof.Extended

open Idealize.ShloMosaic Cert.Proof.Window

/-- A sum of real numbers is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The constant added to the variance is `eps`. -/
theorem ofBits_eps : Ideal.ofBits .f32 0x3727C5AC#32 = ((eps : ℝ) : EReal) := by
  unfold eps
  simp [Ideal.ofBits, Ideal.ieee, -EReal.coe_mul]; norm_num

/-- The constant the band is scaled by is `1 / 128`. -/
theorem ofBits_inv128 : Ideal.ofBits .f32 0x3C000000#32 = ((1 / 128 : ℝ) : EReal) := by
  simp [Ideal.ofBits, Ideal.ieee, -EReal.coe_mul]; norm_num

/-- A conditional of real numbers is the same conditional in the extended reals. -/
theorem coe_ite (p : Prop) [Decidable p] : (if p then (1 : EReal) else 0) = ((if p then 1 else 0 : ℝ) : EReal) := by
  split <;> simp

/-- `1 / (n + 1)` is a real number. -/
theorem inv_succ (n : ℕ) : Ideal.div 1 (((n : ℝ) : EReal) + 1) = ((1 / ((n : ℝ) + 1) : ℝ) : EReal) := by
  have h : ((n : ℝ) : EReal) + 1 = (((n : ℝ) + 1 : ℝ) : EReal) := by
    rw [EReal.coe_add, EReal.coe_one]
  rw [h, Ideal.div_coe (by positivity), one_mul]

/-- The normalized entry as the kernel computes it: the distance from the mean times the reciprocal square root of the
    variance plus `eps`. -/
theorem norm_rsqrt (f : ℕ → ℝ) (t : ℕ) :
    ((f t : EReal) - (wmean f t : EReal)) * Ideal.rsqrt (((wmean (fun s => f s * f s) t : ℝ) : EReal)
        - (wmean f t : EReal) * (wmean f t : EReal) + Ideal.ofBits .f32 0x3727C5AC#32) = (norm f t : EReal) := by
  have h := wvar_eps_pos f t
  rw [ofBits_eps, ← EReal.coe_mul, ← EReal.coe_sub, ← EReal.coe_sub, ← EReal.coe_add]
  change _ * Ideal.rsqrt ((wvar f t + eps : ℝ) : EReal) = _
  rw [Ideal.rsqrt_coe, if_neg h.not_gt, if_neg h.ne', ← EReal.coe_mul]
  rfl

/-- The normalized entry as the reference computes it: the distance from the mean divided by the square root of the
    variance plus `eps`. -/
theorem norm_sqrt (f : ℕ → ℝ) (t : ℕ) :
    Ideal.div ((f t : EReal) - (wmean f t : EReal)) (Ideal.sqrt (((wmean (fun s => f s * f s) t : ℝ) : EReal)
        - (wmean f t : EReal) * (wmean f t : EReal) + Ideal.ofBits .f32 0x3727C5AC#32)) = (norm f t : EReal) := by
  have h := wvar_eps_pos f t
  rw [ofBits_eps, ← EReal.coe_mul, ← EReal.coe_sub, ← EReal.coe_sub, ← EReal.coe_add]
  change Ideal.div _ (Ideal.sqrt ((wvar f t + eps : ℝ) : EReal)) = _
  rw [Ideal.sqrt_coe, if_neg h.not_gt, Ideal.div_coe (Real.sqrt_pos.2 h).ne', ← EReal.coe_mul, ← div_eq_mul_one_div]
  rfl

end Cert.Proof.Extended

end
-- ==== Proof.Chunk.lean ====
/- What the kernel computes for one chunk of 128 consecutive entries of a sequence: the first chunk from its own entries
   alone, a later chunk from the previous chunk's entries and its own. Where the entries are real numbers, both are the
   normalized sequence times the weight plus the bias. -/
module

public import proofs.«01_k».proof.Proof.Extended
public import proofs.«01_k».proof.Proof.Gen.KernelIdeal.Skeleton
public import Idealize.ShloMosaic.Lib.Pointwise
public import Idealize.ShloMosaic.Lib.WordCmp
public import Idealize.ShloMosaic.Lib.Tactic.WordOmega

@[expose] public section

noncomputable section

namespace Cert.Proof.Chunk

open Idealize.ShloMosaic Cert.KernelIdeal Cert.KernelIdeal.Gen Cert.Proof.Window Cert.Proof.Extended

set_option maxRecDepth 16384

/-- Entry `(i, k)` of the band is one where `i < k ≤ i + 128`, and zero elsewhere. -/
theorem band_apply (i : Fin 128) (k : Fin 256) :
    k0_pay2 (F := Ideal) (ix2 i k) = if i.val < k.val ∧ k.val ≤ i.val + 128 then 1 else 0 := by
  pointwise [k0_pay2]
  rw [show IntOp.addi (BitVec.ofNat 32 i.val) 128#32 = BitVec.ofNat 32 (i.val + 128) from (BitVec.ofNat_add i.val 128).symm]
  word_cmp

/-- The band's left half: one above the diagonal. -/
theorem band_left (i k : Fin 128) (h : k.val < 256) :
    k0_pay2 (F := Ideal) (ix2 i ⟨k.val, h⟩) = ((if i.val < k.val then 1 else 0 : ℝ) : EReal) := by
  rw [band_apply, ← coe_ite]
  exact if_congr (by show i.val < k.val ∧ k.val ≤ i.val + 128 ↔ _; omega) rfl rfl

/-- The band's right half: one on and below the diagonal. -/
theorem band_right (i k : Fin 128) (h : 128 + k.val < 256) :
    k0_pay2 (F := Ideal) (ix2 i ⟨128 + k.val, h⟩) = ((if k.val ≤ i.val then 1 else 0 : ℝ) : EReal) := by
  rw [band_apply, ← coe_ite]
  exact if_congr (by show i.val < 128 + k.val ∧ 128 + k.val ≤ i.val + 128 ↔ _; omega) rfl rfl

/-- Row `r`'s number as a float is the real number `r`. -/
theorem row_number (r : Fin 128) : FloatOps.sitofp (F := Ideal) (w := 32) .f32 (BitVec.ofNat 32 r.val) = ((r.val : ℝ) : EReal) := by
  have h : (BitVec.ofNat 32 r.val).toInt = (r.val : ℤ) := by word_omega
  show (((BitVec.ofNat 32 r.val).toInt : ℝ) : EReal) = _
  rw [h]
  norm_cast

/-- The first chunk's mean of the entries `g` at row `r`. -/
theorem first_loc (g : Fin 128 → EReal) (f : ℕ → ℝ) (hg : ∀ k : Fin 128, g k = (f k.val : EReal)) (r : Fin 128) :
    (∑ k : Fin 128, k0_pay2 (F := Ideal) (ix2 r ⟨128 + k.val, by omega⟩) * g k)
      * Ideal.div 1 (FloatOps.sitofp (F := Ideal) (w := 32) .f32 (BitVec.ofNat 32 r.val) + 1) = (wmean f r.val : EReal) := by
  simp only [band_right, hg, row_number, inv_succ, ← EReal.coe_mul, ← coe_sum]
  rw [first_mean f r.val r.isLt]

/-- A later chunk's mean at row `r`, from the previous chunk's entries `g` and its own `h`. -/
theorem step_loc (g h : Fin 128 → EReal) (f : ℕ → ℝ) (c : ℕ) (hg : ∀ k : Fin 128, g k = (f (c + k.val) : EReal))
    (hh : ∀ k : Fin 128, h k = (f (c + 128 + k.val) : EReal)) (r : Fin 128) :
    ∑ k : Fin 128, k0_pay2 (F := Ideal) (ix2 r ⟨k.val, by omega⟩) * Ideal.ofBits .f32 0x3C000000#32 * g k
      + ∑ k : Fin 128, k0_pay2 (F := Ideal) (ix2 r ⟨128 + k.val, by omega⟩) * Ideal.ofBits .f32 0x3C000000#32 * h k
      = (wmean f (c + 128 + r.val) : EReal) := by
  simp only [band_left, band_right, hg, hh, ofBits_inv128, ← EReal.coe_mul, ← coe_sum, ← EReal.coe_add]
  rw [step_mean f c r.val r.isLt]

/-- The first chunk's value where its entries are the real numbers `f 0, f 1, …`. -/
theorem first_apply (w b : FVec Ideal S1x256 .f32) (x : FVec Ideal S1x128x256 .f32) (f : ℕ → ℝ) (r : Fin 128) (d : Fin 256)
    (hx : ∀ k : Fin 128, x (ix3 0 k d) = (f k.val : EReal)) :
    k0_pay12 (F := Ideal) (k0_pay7 b) (k0_pay10 x) (k0_pay11 w) (ix3 0 r d)
      = (norm f r.val : EReal) * w (ix2 0 d) + b (ix2 0 d) := by
  pointwise [k0_pay12, k0_pay7, k0_pay10, k0_pay11, k0_pay6, k0_pay8, k0_pay4, k0_pay3]
  rw [first_loc (fun k => x (ix3 0 k d)) f hx r,
    first_loc (fun k => x (ix3 0 k d) * x (ix3 0 k d)) (fun s => f s * f s) (fun k => by rw [hx, EReal.coe_mul]) r, hx,
    norm_rsqrt]

/-- A later chunk's value where the previous chunk's entries are the real numbers `f c, f (c + 1), …` and its own
    continue them. -/
theorem step_apply (w b : FVec Ideal S1x256 .f32) (p x : FVec Ideal S1x128x256 .f32) (f : ℕ → ℝ) (c : ℕ) (r : Fin 128)
    (d : Fin 256) (hp : ∀ k : Fin 128, p (ix3 0 k d) = (f (c + k.val) : EReal))
    (hx : ∀ k : Fin 128, x (ix3 0 k d) = (f (c + 128 + k.val) : EReal)) :
    k0_pay15 (F := Ideal) k0_pay5 (k0_pay6 w) (k0_pay7 b) (k0_pay9 p) x (ix3 0 r d)
      = (norm f (c + 128 + r.val) : EReal) * w (ix2 0 d) + b (ix2 0 d) := by
  pointwise [k0_pay15, k0_pay14, k0_pay13, k0_pay5, k0_pay6, k0_pay7, k0_pay8, k0_pay9]
  rw [step_loc (fun k => p (ix3 0 k d)) (fun k => x (ix3 0 k d)) f c hp hx r,
    step_loc (fun k => p (ix3 0 k d) * p (ix3 0 k d)) (fun k => x (ix3 0 k d) * x (ix3 0 k d)) (fun s => f s * f s) c
      (fun k => by rw [hp, EReal.coe_mul]) (fun k => by rw [hx, EReal.coe_mul]) r, hx, norm_rsqrt]

end Cert.Proof.Chunk

end
-- ==== Proof.Block.lean ====
/- What one grid point leaves in its output block: the block's 64 stored pieces are 32 chunks of each of the two sequences
   the point handles, so the block holds the normalized sequences times the weight plus the bias. -/
module

public import proofs.«01_k».proof.Proof.Chunk
public import proofs.«01_k».proof.Proof.Gen.KernelIdeal.Frame
public import Idealize.ShloMosaic.Lib.Pipeline.Value

@[expose] public section

noncomputable section

namespace Cert.Proof.Block

open Idealize.ShloMosaic Cert.KernelIdeal Cert.KernelIdeal.Gen Cert.Proof.Window Cert.Proof.Chunk

set_option maxRecDepth 16384

/-- The block's value at an index: of the sequence `f n d` (batch row `n`, feature `d`) the normalized entry, times the
    weight plus the bias. -/
def value (f : Fin 2 → Fin 256 → ℕ → ℝ) (w b : Vec Ideal S1x256 .f32) : Vec Ideal S2x4096x256 .f32 :=
  fun y => (norm (f (y 0) (y 2)) (y 1).val : EReal) * w (ix2 0 (y 2)) + b (ix2 0 (y 2))

variable (x0 : Vec Ideal S2x4096x256 .f32) (w b : Vec Ideal S1x256 .f32) (f : Fin 2 → Fin 256 → ℕ → ℝ)

/-- A load of 128 entries of batch row `n` from entry `c` on, at an index. -/
theorem load_apply (n c : ℕ) (h : ∀ a, (![n, c, 0] : Fin 3 → ℕ) a + S1x128x256.size a ≤ S2x4096x256.size a) (hn : n < 2)
    (hc : c + 128 ≤ 4096) (hx : ∀ n t d, x0 (ix3 n t d) = (f n d t.val : EReal)) (k : Fin 128) (d : Fin 256) :
    View.ld (Val := Elt Ideal) (e' := .f32) x0 (Rect.unit (s := S2x4096x256) ![n, c, 0] S1x128x256.size h) (ix3 (0 : Fin 1) k d) = (f ⟨n, hn⟩ d (c + k.val) : EReal) := by
  rw [← hx ⟨n, hn⟩ ⟨c + k.val, by omega⟩ d]
  refine congrArg x0 (funext fun a => Fin.ext ?_)
  match a with
  | ⟨0, _⟩ => show n + 1 * 0 = n; omega
  | ⟨1, _⟩ => show c + 1 * k.val = c + k.val; omega
  | ⟨2, _⟩ => show 0 + 1 * d.val = d.val; omega

/-- A load of a whole row is the row. -/
theorem load_row (v : Vec Ideal S1x256 .f32) : View.ld (Val := Elt Ideal) (e' := .f32) v r0_0 = v := by
  funext j
  refine congrArg v (funext fun a => Fin.ext ?_)
  match a with
  | ⟨0, _⟩ => show 0 + 1 * (j 0).val = (j 0).val; omega
  | ⟨1, _⟩ => show 0 + 1 * (j 1).val = (j 1).val; omega

/-- The block's value at an entry of a stored chunk. -/
theorem value_emb (n c : ℕ) (h : ∀ a, (![n, c, 0] : Fin 3 → ℕ) a + S1x128x256.size a ≤ S2x4096x256.size a) (hn : n < 2)
    (r : Fin 128) (d : Fin 256) :
    value f w b ((Rect.unit (s := S2x4096x256) ![n, c, 0] S1x128x256.size h).emb (ix3 (0 : Fin 1) r d))
      = (norm (f ⟨n, hn⟩ d) (c + r.val) : EReal) * w (ix2 0 d) + b (ix2 0 d) := by
  have e0 : (Rect.unit (s := S2x4096x256) ![n, c, 0] S1x128x256.size h).emb (ix3 (0 : Fin 1) r d) 0 = (⟨n, hn⟩ : Fin 2) :=
    Fin.ext (by show n + 1 * 0 = n; omega)
  have e1 : ((Rect.unit (s := S2x4096x256) ![n, c, 0] S1x128x256.size h).emb (ix3 (0 : Fin 1) r d) 1).val = c + r.val := by
    show c + 1 * r.val = c + r.val; omega
  have e2 : (Rect.unit (s := S2x4096x256) ![n, c, 0] S1x128x256.size h).emb (ix3 (0 : Fin 1) r d) 2 = d :=
    Fin.ext (by show 0 + 1 * d.val = d.val; omega)
  unfold value
  rw [e0, e1, e2]

/-- What is stored for the first chunk of batch row `n` is the block's value there. -/
theorem first_piece (hx : ∀ n t d, x0 (ix3 n t d) = (f n d t.val : EReal)) (n : ℕ) (hn : n < 2)
    (h : ∀ a, (![n, 0, 0] : Fin 3 → ℕ) a + S1x128x256.size a ≤ S2x4096x256.size a) (j : S1x128x256.Idx) :
    k0_pay12 (F := Ideal) (k0_pay7 (View.ld b r0_0))
        (k0_pay10 (View.ld x0 (Rect.unit (s := S2x4096x256) ![n, 0, 0] S1x128x256.size h))) (k0_pay11 (View.ld w r0_0)) j
      = value f w b ((Rect.unit (s := S2x4096x256) ![n, 0, 0] S1x128x256.size h).emb j) := by
  obtain ⟨z, r, d, rfl⟩ : ∃ (z : Fin 1) (r : Fin 128) (d : Fin 256), j = ix3 z r d := ⟨j 0, j 1, j 2, (eq_ix3 j)⟩
  obtain rfl : z = 0 := Subsingleton.elim _ _
  rw [load_row, load_row, value_emb w b f n 0 h hn r d, Nat.zero_add,
    first_apply w b _ (f ⟨n, hn⟩ d) r d fun k => by
      rw [load_apply x0 f n 0 h hn (by omega) hx k d, Nat.zero_add]]

/-- What is stored for the chunk of batch row `n` that follows the one at entry `c` is the block's value there. -/
theorem step_piece (hx : ∀ n t d, x0 (ix3 n t d) = (f n d t.val : EReal)) (n c : ℕ) (hn : n < 2) (hc : c + 256 ≤ 4096)
    (hp : ∀ a, (![n, c, 0] : Fin 3 → ℕ) a + S1x128x256.size a ≤ S2x4096x256.size a)
    (h : ∀ a, (![n, c + 128, 0] : Fin 3 → ℕ) a + S1x128x256.size a ≤ S2x4096x256.size a) (j : S1x128x256.Idx) :
    k0_pay15 (F := Ideal) k0_pay5 (k0_pay6 (View.ld w r0_0)) (k0_pay7 (View.ld b r0_0))
        (k0_pay9 (View.ld x0 (Rect.unit (s := S2x4096x256) ![n, c, 0] S1x128x256.size hp)))
        (View.ld x0 (Rect.unit (s := S2x4096x256) ![n, c + 128, 0] S1x128x256.size h)) j
      = value f w b ((Rect.unit (s := S2x4096x256) ![n, c + 128, 0] S1x128x256.size h).emb j) := by
  obtain ⟨z, r, d, rfl⟩ : ∃ (z : Fin 1) (r : Fin 128) (d : Fin 256), j = ix3 z r d := ⟨j 0, j 1, j 2, (eq_ix3 j)⟩
  obtain rfl : z = 0 := Subsingleton.elim _ _
  rw [load_row, load_row, value_emb w b f n (c + 128) h hn r d,
    step_apply w b _ _ (f ⟨n, hn⟩ d) c r d (load_apply x0 f n c hp hn (by omega) hx · d)
      (load_apply x0 f n (c + 128) h hn (by omega) hx · d)]

/-- The block a grid point leaves is `value`. -/
theorem out_eq (hx : ∀ n t d, x0 (ix3 n t d) = (f n d t.val : EReal)) : out0_3 (F := Ideal) x0 w b = value f w b := by
  funext y
  unfold_out out0_3
  refine View.canon_apply_of_pieces (Val := Elt Ideal) (e := .f32) (value f w b) _ ?_ y (cover0_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine List.forall_iff_forall_mem.1 ?_
  simp only [List.Forall]
  refine ⟨fun j => step_piece x0 w b f hx 1 3840 (by omega) (by omega) _ _ j,
    fun j => step_piece x0 w b f hx 1 3712 (by omega) (by omega) _ _ j,
    fun j => step_piece x0 w b f hx 1 3584 (by omega) (by omega) _ _ j,
    fun j => step_piece x0 w b f hx 1 3456 (by omega) (by omega) _ _ j,
    fun j => step_piece x0 w b f hx 1 3328 (by omega) (by omega) _ _ j,
    fun j => step_piece x0 w b f hx 1 3200 (by omega) (by omega) _ _ j,
    fun j => step_piece x0 w b f hx 1 3072 (by omega) (by omega) _ _ j,
    fun j => step_piece x0 w b f hx 1 2944 (by omega) (by omega) _ _ j,
    fun j => step_piece x0 w b f hx 1 2816 (by omega) (by omega) _ _ j,
    fun j => step_piece x0 w b f hx 1 2688 (by omega) (by omega) _ _ j,
    fun j => step_piece x0 w b f hx 1 2560 (by omega) (by omega) _ _ j,
    fun j => step_piece x0 w b f hx 1 2432 (by omega) (by omega) _ _ j,
    fun j => step_piece x0 w b f hx 1 2304 (by omega) (by omega) _ _ j,
    fun j => step_piece x0 w b f hx 1 2176 (by omega) (by omega) _ _ j,
    fun j => step_piece x0 w b f hx 1 2048 (by omega) (by omega) _ _ j,
    fun j => step_piece x0 w b f hx 1 1920 (by omega) (by omega) _ _ j,
    fun j => step_piece x0 w b f hx 1 1792 (by omega) (by omega) _ _ j,
    fun j => step_piece x0 w b f hx 1 1664 (by omega) (by omega) _ _ j,
    fun j => step_piece x0 w b f hx 1 1536 (by omega) (by omega) _ _ j,
    fun j => step_piece x0 w b f hx 1 1408 (by omega) (by omega) _ _ j,
    fun j => step_piece x0 w b f hx 1 1280 (by omega) (by omega) _ _ j,
    fun j => step_piece x0 w b f hx 1 1152 (by omega) (by omega) _ _ j,
    fun j => step_piece x0 w b f hx 1 1024 (by omega) (by omega) _ _ j,
    fun j => step_piece x0 w b f hx 1 896 (by omega) (by omega) _ _ j,
    fun j => step_piece x0 w b f hx 1 768 (by omega) (by omega) _ _ j,
    fun j => step_piece x0 w b f hx 1 640 (by omega) (by omega) _ _ j,
    fun j => step_piece x0 w b f hx 1 512 (by omega) (by omega) _ _ j,
    fun j => step_piece x0 w b f hx 1 384 (by omega) (by omega) _ _ j,
    fun j => step_piece x0 w b f hx 1 256 (by omega) (by omega) _ _ j,
    fun j => step_piece x0 w b f hx 1 128 (by omega) (by omega) _ _ j,
    fun j => step_piece x0 w b f hx 1 0 (by omega) (by omega) _ _ j,
    fun j => first_piece x0 w b f hx 1 (by omega) _ j,
    fun j => step_piece x0 w b f hx 0 3840 (by omega) (by omega) _ _ j,
    fun j => step_piece x0 w b f hx 0 3712 (by omega) (by omega) _ _ j,
    fun j => step_piece x0 w b f hx 0 3584 (by omega) (by omega) _ _ j,
    fun j => step_piece x0 w b f hx 0 3456 (by omega) (by omega) _ _ j,
    fun j => step_piece x0 w b f hx 0 3328 (by omega) (by omega) _ _ j,
    fun j => step_piece x0 w b f hx 0 3200 (by omega) (by omega) _ _ j,
    fun j => step_piece x0 w b f hx 0 3072 (by omega) (by omega) _ _ j,
    fun j => step_piece x0 w b f hx 0 2944 (by omega) (by omega) _ _ j,
    fun j => step_piece x0 w b f hx 0 2816 (by omega) (by omega) _ _ j,
    fun j => step_piece x0 w b f hx 0 2688 (by omega) (by omega) _ _ j,
    fun j => step_piece x0 w b f hx 0 2560 (by omega) (by omega) _ _ j,
    fun j => step_piece x0 w b f hx 0 2432 (by omega) (by omega) _ _ j,
    fun j => step_piece x0 w b f hx 0 2304 (by omega) (by omega) _ _ j,
    fun j => step_piece x0 w b f hx 0 2176 (by omega) (by omega) _ _ j,
    fun j => step_piece x0 w b f hx 0 2048 (by omega) (by omega) _ _ j,
    fun j => step_piece x0 w b f hx 0 1920 (by omega) (by omega) _ _ j,
    fun j => step_piece x0 w b f hx 0 1792 (by omega) (by omega) _ _ j,
    fun j => step_piece x0 w b f hx 0 1664 (by omega) (by omega) _ _ j,
    fun j => step_piece x0 w b f hx 0 1536 (by omega) (by omega) _ _ j,
    fun j => step_piece x0 w b f hx 0 1408 (by omega) (by omega) _ _ j,
    fun j => step_piece x0 w b f hx 0 1280 (by omega) (by omega) _ _ j,
    fun j => step_piece x0 w b f hx 0 1152 (by omega) (by omega) _ _ j,
    fun j => step_piece x0 w b f hx 0 1024 (by omega) (by omega) _ _ j,
    fun j => step_piece x0 w b f hx 0 896 (by omega) (by omega) _ _ j,
    fun j => step_piece x0 w b f hx 0 768 (by omega) (by omega) _ _ j,
    fun j => step_piece x0 w b f hx 0 640 (by omega) (by omega) _ _ j,
    fun j => step_piece x0 w b f hx 0 512 (by omega) (by omega) _ _ j,
    fun j => step_piece x0 w b f hx 0 384 (by omega) (by omega) _ _ j,
    fun j => step_piece x0 w b f hx 0 256 (by omega) (by omega) _ _ j,
    fun j => step_piece x0 w b f hx 0 128 (by omega) (by omega) _ _ j,
    fun j => step_piece x0 w b f hx 0 0 (by omega) (by omega) _ _ j,
    fun j => first_piece x0 w b f hx 0 (by omega) _ j⟩

end Cert.Proof.Block

end
-- ==== Proof.Array.lean ====
/- What the kernel's result array holds after the run: at every index the normalized entry of that index's sequence times
   the weight plus the bias, where the sequences' entries are real numbers. -/
module

public import proofs.«01_k».proof.Proof.Block
public import proofs.«01_k».proof.Proof.Gen.KernelIdeal.Value
public import Idealize.ShloMosaic.Lib.StableHlo.Run

@[expose] public section

noncomputable section

namespace Cert.Proof.Array

open Idealize.ShloMosaic Idealize.ShloMosaic.TcCoe Idealize.SL.Sem
open Cert.KernelIdeal Cert.KernelIdeal.Gen Cert.Proof.Window

/-- The sequence of batch row `n` and feature `d` of an array, as real numbers, zero past its end. -/
def seq (x : (⟨3, ![32, 4096, 256]⟩ : Shape).Idx → EReal) (n : Fin 32) (d : Fin 256) (s : ℕ) : ℝ :=
  if h : s < 4096 then (x (ix3 n ⟨s, h⟩ d)).toReal else 0

/-- Every entry of the array is a real number. -/
def IsReal (x : (⟨3, ![32, 4096, 256]⟩ : Shape).Idx → EReal) : Prop := ∀ i, x i = ((x i).toReal : EReal)

/-- Where its entries are real numbers the array is its sequences. -/
theorem seq_apply {x : (⟨3, ![32, 4096, 256]⟩ : Shape).Idx → EReal} (hx : IsReal x) (n : Fin 32) (t : Fin 4096) (d : Fin 256) :
    x (ix3 n t d) = (seq x n d t.val : EReal) := by
  unfold seq
  rw [dif_pos t.isLt]
  exact hx _

/-- The result at an index: the normalized entry times the weight plus the bias. -/
def result (x : (⟨3, ![32, 4096, 256]⟩ : Shape).Idx → EReal) (w b : (⟨1, ![256]⟩ : Shape).Idx → EReal) :
    (⟨3, ![32, 4096, 256]⟩ : Shape).Idx → EReal :=
  fun i => (norm (seq x (i 0) (i 2)) (i 1).val : EReal) * w (ix1 (i 2)) + b (ix1 (i 2))

variable (m : (ℓ : Loc nD τ sig) → Buf (Elt Ideal) ℓ) (c : Dev nD)

/-- Where the blocks lie: point `t` handles batch rows `2 t` and `2 t + 1`, and the whole weight and bias. -/
theorem index_facts : ∀ t : Fin cfg0.N,
    (win0_0.index t 0 = t.val ∧ win0_0.index t 1 = 0 ∧ win0_0.index t 2 = 0)
      ∧ (win0_1.index t 0 = 0 ∧ win0_1.index t 1 = 0) ∧ (win0_2.index t 0 = 0 ∧ win0_2.index t 1 = 0)
      ∧ (win0_3.index t 0 = t.val ∧ win0_3.index t 1 = 0 ∧ win0_3.index t 2 = 0) :=
  (by decide +kernel : ∀ t : Fin grid0.N, (win0_0.index t 0 = t.val ∧ win0_0.index t 1 = 0 ∧ win0_0.index t 2 = 0)
      ∧ (win0_1.index t 0 = 0 ∧ win0_1.index t 1 = 0) ∧ (win0_2.index t 0 = 0 ∧ win0_2.index t 1 = 0)
      ∧ (win0_3.index t 0 = t.val ∧ win0_3.index t 1 = 0 ∧ win0_3.index t 2 = 0))

/-- The region finds the weight as a row. -/
theorem weight_row (d : Fin 256) : V m c main_v0 (ix2 (0 : Fin 1) d) = m ((c : Thread nD τ).loc main_arg1) (ix1 d) := by
  have h : V m c main_v0 = shapeCast S1x256 (m ((c : Thread nD τ).loc main_arg1)) shapeCasts_S256_S1x256 := by
    simp only [hostOps0, V, List.flatten_cons, List.flatten_nil, List.append_nil, List.cons_append, List.nil_append]
    after_results
    rfl
  rw [h]
  pointwise

/-- The region finds the bias as a row. -/
theorem bias_row (d : Fin 256) : V m c main_v1 (ix2 (0 : Fin 1) d) = m ((c : Thread nD τ).loc main_arg2) (ix1 d) := by
  have h : V m c main_v1 = shapeCast S1x256 (m ((c : Thread nD τ).loc main_arg2)) shapeCasts_S256_S1x256 := by
    simp only [hostOps0, V, List.flatten_cons, List.flatten_nil, List.append_nil, List.cons_append, List.nil_append]
    after_results
    rfl
  rw [h]
  pointwise

/-- Point `t`'s block of the first argument, at an index. -/
theorem iblk0_apply (t : Fin cfg0.N) (n : Fin 2) (s : Fin 4096) (d : Fin 256) (h : 2 * t.val + n.val < 32) :
    iblk m c 0 t (ix3 n s d) = m ((c : Thread nD τ).loc main_arg0) (ix3 ⟨2 * t.val + n.val, h⟩ s d) := by
  obtain ⟨⟨e0, e1, e2⟩, -, -, -⟩ := index_facts t
  show V m c main_arg0 ((win0_0.rect t).emb (ix3 n s d)) = _
  rw [V_main_arg0]
  refine congrArg _ (funext fun a => Fin.ext ?_)
  match a with
  | ⟨0, _⟩ => show win0_0.index t 0 * 2 + 1 * n.val = 2 * t.val + n.val; rw [e0]; omega
  | ⟨1, _⟩ => show win0_0.index t 1 * 4096 + 1 * s.val = s.val; rw [e1]; omega
  | ⟨2, _⟩ => show win0_0.index t 2 * 256 + 1 * d.val = d.val; rw [e2]; omega

/-- Point `t`'s block of the weight, at an index. -/
theorem iblk1_apply (t : Fin cfg0.N) (d : Fin 256) :
    iblk m c 1 t (ix2 (0 : Fin 1) d) = m ((c : Thread nD τ).loc main_arg1) (ix1 d) := by
  obtain ⟨-, ⟨e0, e1⟩, -, -⟩ := index_facts t
  rw [← weight_row m c d]
  show V m c main_v0 ((win0_1.rect t).emb (ix2 (0 : Fin 1) d)) = _
  refine congrArg _ (funext fun a => Fin.ext ?_)
  match a with
  | ⟨0, _⟩ => show win0_1.index t 0 * 1 + 1 * 0 = 0; rw [e0]
  | ⟨1, _⟩ => show win0_1.index t 1 * 256 + 1 * d.val = d.val; rw [e1]; omega

/-- Point `t`'s block of the bias, at an index. -/
theorem iblk2_apply (t : Fin cfg0.N) (d : Fin 256) :
    iblk m c 2 t (ix2 (0 : Fin 1) d) = m ((c : Thread nD τ).loc main_arg2) (ix1 d) := by
  obtain ⟨-, -, ⟨e0, e1⟩, -⟩ := index_facts t
  rw [← bias_row m c d]
  show V m c main_v1 ((win0_2.rect t).emb (ix2 (0 : Fin 1) d)) = _
  refine congrArg _ (funext fun a => Fin.ext ?_)
  match a with
  | ⟨0, _⟩ => show win0_2.index t 0 * 1 + 1 * 0 = 0; rw [e0]
  | ⟨1, _⟩ => show win0_2.index t 1 * 256 + 1 * d.val = d.val; rw [e1]; omega

/-- The result array after the run. -/
theorem final (hx : IsReal (m ((c : Thread nD τ).loc main_arg0))) :
    (dats m 0 c).arrAt 3 cfg0.N = result (m ((c : Thread nD τ).loc main_arg0)) (m ((c : Thread nD τ).loc main_arg1))
      (m ((c : Thread nD τ).loc main_arg2)) := by
  funext i
  obtain ⟨n, s, d, rfl⟩ : ∃ (n : Fin 32) (s : Fin 4096) (d : Fin 256), i = ix3 n s d := ⟨i 0, i 1, i 2, eq_ix3 i⟩
  have hN : cfg0.N = 16 := N_0
  have hn := n.isLt
  let t : Fin cfg0.N := ⟨n.val / 2, by omega⟩
  have ht : t.val = n.val / 2 := rfl
  have hb : ∀ k : Fin 2, 2 * t.val + k.val < 32 := fun k => by have := k.isLt; omega
  let k : Fin 2 := ⟨n.val % 2, by omega⟩
  have hk : (⟨2 * t.val + k.val, hb k⟩ : Fin 32) = n := Fin.ext (by show 2 * (n.val / 2) + n.val % 2 = n.val; omega)
  have h := congrFun (Value.blocks3 m c t (flush0_3 t)) (ix3 k s d)
  rw [Value.flushed3, Block.out_eq (iblk m c 0 t) (iblk m c 1 t) (iblk m c 2 t)
    (fun k d => seq (m ((c : Thread nD τ).loc main_arg0)) ⟨2 * t.val + k.val, hb k⟩ d)
    fun k s d => (iblk0_apply m c t k s d (hb k)).trans (seq_apply hx _ s d)] at h
  have hr : (cfg0.win 3).cut (grid0.coords t) (Block.value
      (fun k d => seq (m ((c : Thread nD τ).loc main_arg0)) ⟨2 * t.val + k.val, hb k⟩ d) (iblk m c 1 t) (iblk m c 2 t)) (ix3 k s d)
      = result (m ((c : Thread nD τ).loc main_arg0)) (m ((c : Thread nD τ).loc main_arg1))
          (m ((c : Thread nD τ).loc main_arg2)) (ix3 n s d) := by
    show (norm (seq (m ((c : Thread nD τ).loc main_arg0)) ⟨2 * t.val + k.val, hb k⟩ d) s.val : EReal)
      * iblk m c 1 t (ix2 (0 : Fin 1) d) + iblk m c 2 t (ix2 (0 : Fin 1) d) = _
    rw [iblk1_apply, iblk2_apply, hk]
    rfl
  refine Eq.trans ?_ (h.trans hr)
  obtain ⟨-, -, -, ⟨e0, e1, e2⟩⟩ := index_facts t
  show _ = (dats m 0 c).arrAt 3 cfg0.N ((win0_3.rect t).emb (ix3 k s d))
  refine congrArg _ (funext fun a => Fin.ext ?_)
  match a with
  | ⟨0, _⟩ => show n.val = win0_3.index t 0 * 2 + 1 * (n.val % 2); rw [e0]; omega
  | ⟨1, _⟩ => show s.val = win0_3.index t 1 * 4096 + 1 * s.val; rw [e1]; omega
  | ⟨2, _⟩ => show d.val = win0_3.index t 2 * 256 + 1 * d.val; rw [e2]; omega

end Cert.Proof.Array

end
-- ==== Proof.Prefix.lean ====
/- The reference's running sums: its padded window sum holds at position `q` the sum of the first `q` entries, its
   gather reads the position its index names. -/
module

public import proofs.«01_k».proof.Proof.Array
public import proofs.«01_k».proof.Proof.Gen.ReferenceIdeal.Run
public import Idealize.ShloMosaic.Lib.WordCmp
public import Idealize.ShloMosaic.Lib.Tactic.WordOmega
public import Idealize.ShloMosaic.Lib.StableHlo.Predicate

@[expose] public section

noncomputable section

namespace Cert.Proof.Prefix

open Idealize.ShloMosaic Idealize.ShloMosaic.TcCoe Idealize.SL.Sem
open Cert.ReferenceIdeal Cert.ReferenceIdeal.Gen Cert.Proof.Window Cert.Proof.Array

/-- Adding the terms of a list of all positions one after another is adding their sum. -/
theorem foldl_sum {n : ℕ} (g : Fin n → EReal) (v : EReal) :
    (List.finRange n).foldl (fun r i => r + g i) v = v + ∑ i, g i := by
  have h : ∀ (l : List (Fin n)) (v : EReal), l.foldl (fun r i => r + g i) v = v + (l.map g).sum := by
    intro l
    induction l with
    | nil => intro v; simp
    | cons a l ih => intro v; simp only [List.foldl_cons, List.map_cons, List.sum_cons, ih, add_assoc]
  rw [h, ← List.ofFn_eq_map, List.sum_ofFn]

/-- A window that ends at position `t` and starts before the array sums the entries up to `t`. -/
theorem sum_ending (f : ℕ → EReal) (p t : ℕ) (ht : t ≤ p) :
    ∑ k : Fin (p + 1), (if p ≤ t + k.val then f (t + k.val - p) else 0) = ∑ s ∈ Finset.range (t + 1), f s := by
  rw [Fin.sum_univ_eq_sum_range (fun k => if p ≤ t + k then f (t + k - p) else 0), ← Finset.sum_filter]
  have h : (Finset.range (p + 1)).filter (fun k => p ≤ t + k) = Finset.Ico (p - t) (p + 1) := by
    ext k
    simp only [Finset.mem_filter, Finset.mem_range, Finset.mem_Ico]
    omega
  rw [h, Finset.sum_Ico_eq_sum_range, show p + 1 - (p - t) = t + 1 by omega]
  refine Finset.sum_congr rfl fun i hi => ?_
  congr 1
  omega

/-- A window sum from zero, over windows that reach back to the start along the middle axis, holds at position `t` the
    sum of the entries up to `t`. -/
theorem window_apply {N p D : ℕ} {X : (⟨3, ![N, p + 1, D]⟩ : Shape).Idx → EReal} (f : Fin N → Fin D → ℕ → EReal)
    (hX : ∀ n (t : Fin (p + 1)) d, X (ix3 n t d) = f n d t.val)
    (h : (⟨3, ![N, p + 1, D]⟩ : Shape).ReduceWindows (![1, p + 1, 1] : Fin 3 → ℕ) ![1, 1, 1] ![0, p, 0] ![0, 0, 0] ⟨3, ![N, p + 1, D]⟩)
    (n : Fin N) (t : Fin (p + 1)) (d : Fin D) :
    Ideal.hostReduceWindowAdd (![1, p + 1, 1] : Fin 3 → ℕ) ![1, 1, 1] ![0, p, 0] ![0, 0, 0] h X 0 (ix3 n t d)
      = ∑ s ∈ Finset.range (t.val + 1), f n d s := by
  have ht := t.isLt
  unfold Ideal.hostReduceWindowAdd Host.reduceWindow
  refine (foldl_sum _ _).trans ?_
  rw [zero_add]
  refine (Equiv.sum_comp (Shape.rowMajor ⟨3, ![1, p + 1, 1]⟩).symm (fun w : (⟨3, ![1, p + 1, 1]⟩ : Shape).Idx =>
    if p ≤ t.val + (w 1).val then f n d (t.val + (w 1).val - p) else 0) |>.symm.trans ?_ |>.symm).trans ?_
  · refine Finset.sum_congr rfl fun k _ => ?_
    let w : (⟨3, ![1, p + 1, 1]⟩ : Shape).Idx := (Shape.rowMajor ⟨3, ![1, p + 1, 1]⟩).symm k
    have hw0 : (w 0).val = 0 := by have : (w 0).val < 1 := (w 0).isLt; omega
    have hw2 : (w 2).val = 0 := by have : (w 2).val < 1 := (w 2).isLt; omega
    have hw1 : (w 1).val < p + 1 := (w 1).isLt
    show (if p ≤ t.val + (w 1).val then f n d (t.val + (w 1).val - p) else 0) = _
    split
    · next hle =>
      refine Eq.trans ?_ (dif_pos (fun a => ?_)).symm
      · refine ((congrArg X (funext fun a => Fin.ext ?_)).trans (hX n ⟨t.val + (w 1).val - p, by omega⟩ d)).symm
        match a with
        | ⟨0, _⟩ =>
          show n.val * 1 + (w 0).val - 0 = n.val
          omega
        | ⟨1, _⟩ =>
          show t.val * 1 + (w 1).val - p = t.val + (w 1).val - p
          omega
        | ⟨2, _⟩ =>
          show d.val * 1 + (w 2).val - 0 = d.val
          omega
      · match a with
        | ⟨0, _⟩ =>
          show 0 ≤ n.val * 1 + (w 0).val ∧ n.val * 1 + (w 0).val - 0 < N
          have := n.isLt
          omega
        | ⟨1, _⟩ =>
          show p ≤ t.val * 1 + (w 1).val ∧ t.val * 1 + (w 1).val - p < p + 1
          omega
        | ⟨2, _⟩ =>
          show 0 ≤ d.val * 1 + (w 2).val ∧ d.val * 1 + (w 2).val - 0 < D
          have := d.isLt
          omega
    · next hle =>
      refine Eq.symm ((dif_neg fun hin => hle ?_).trans rfl)
      have h1 := (hin 1).1
      change p ≤ t.val * 1 + (w 1).val at h1
      omega
  · rw [sum_idx3]
    simp only [Fin.sum_univ_one, ix3_1]
    exact sum_ending (f n d) p t.val (by omega)

/-- The reference's running sum along the sequence, with a zero in front. -/
def running (X : FVec Ideal S32x4096x256 .f32) : FVec Ideal S32x4097x256 .f32 :=
  pad S32x4097x256 ![0, 1, 0] ![0, 0, 0] ![0, 0, 0] (Host.reduceWindowAdd ![1, 4096, 1] ![1, 1, 1] ![0, 4095, 0] ![0, 0, 0] X (broadcastInDim S_ ![] bcast_S_S_ (constant S_ .f32 0x00000000#32)) reduceWindows_S32x4096x256_S32x4096x256_w1s1p0_0_w4096s1p4095_0_w1s1p0_0 h_S_) (sitofp .f32 (constantI S_ 32 0#32)) pads_S32x4096x256_S32x4097x256_000_100_000 h_S_

/-- The reference's running sum holds at position `q` the sum of the first `q` entries. -/
theorem running_apply {X : FVec Ideal S32x4096x256 .f32} (f : Fin 32 → Fin 256 → ℕ → EReal)
    (hX : ∀ n (t : Fin 4096) d, X (ix3 n t d) = f n d t.val) (n : Fin 32) (q : Fin 4097) (d : Fin 256) :
    running X (ix3 n q d) = ∑ s ∈ Finset.range q.val, f n d s := by
  have hv : broadcastInDim S_ ![] bcast_S_S_ (constant S_ .f32 0x00000000#32 : FVec Ideal S_ .f32) (Shape.Idx.first h_S_) = (0 : EReal) := by
    pointwise
  unfold running Host.reduceWindowAdd
  rw [hv]
  generalize hR : FloatOps.hostReduceWindowAdd _ _ _ _ _ _ X _ = R
  have hR' : ∀ t : Fin 4096, R (ix3 n t d) = ∑ s ∈ Finset.range (t.val + 1), f n d s := fun t => by
    rw [← hR]
    exact window_apply f hX reduceWindows_S32x4096x256_S32x4096x256_w1s1p0_0_w4096s1p4095_0_w1s1p0_0 n t d
  pointwise
  have hq := q.isLt
  split
  · next h =>
    rw [hR']
    show ∑ s ∈ Finset.range (q.val - 1 + 1), f n d s = _
    rw [show q.val - 1 + 1 = q.val by omega]
  · next h =>
    rw [show q.val = 0 by omega, Finset.range_zero, Finset.sum_empty]
    show (((0#32).toInt : ℝ) : EReal) = 0
    simp

/-- The reference's gather reads the position its index names. -/
theorem gather_apply (x : FVec Ideal S32x4097x256 .f32) (idx : IVec S4096x1 32) (n : Fin 32) (t : Fin 4096) (d : Fin 256)
    (q : Fin 4097) (hq : idx (ix2 t (0 : Fin 1)) = BitVec.ofNat 32 q.val) :
    Host.gather gather_S32x4097x256_S4096x1_S32x4096x256_02_1_n_n_1_1_321256 x idx (ix3 n t d) = x (ix3 n q d) := by
  have hsi : ∀ c, gather_S32x4097x256_S4096x1_S32x4096x256_02_1_n_n_1_1_321256.siIdx (ix3 n t d) c = ix2 t (0 : Fin 1) := by
    intro c
    funext b
    apply Fin.ext
    match b with
    | ⟨0, _⟩ => rfl
    | ⟨1, _⟩ => exact Nat.lt_one_iff.1 c.isLt
  refine congrArg x (funext fun a => Fin.ext ?_)
  have hql := q.isLt
  match a with
  | ⟨0, _⟩ =>
    show 0 + 0 + n.val = n.val
    omega
  | ⟨1, _⟩ =>
    refine Eq.trans (b := min (idx (ix2 t (0 : Fin 1))).toInt.toNat 4096 + 0 + 0) ?_ ?_
    · rw [← hsi ⟨0, Nat.one_pos⟩]
      rfl
    · rw [hq, StableHlo.Predicate.toInt_ofNat_small _ (by omega)]
      show min ((q.val : ℤ)).toNat 4096 + 0 + 0 = q.val
      omega
  | ⟨2, _⟩ =>
    show 0 + 0 + d.val = d.val
    omega

end Cert.Proof.Prefix
-- ==== Proof.Reference.lean ====
/- What the reference computes: its result is, at every index, the normalized entry of that index's sequence times the
   weight plus the bias, where the sequences' entries are real numbers. -/
module

public import proofs.«01_k».proof.Proof.Prefix

@[expose] public section

noncomputable section

namespace Cert.Proof.Reference

open Idealize.ShloMosaic Idealize.ShloMosaic.TcCoe Idealize.SL.Sem
open Cert.ReferenceIdeal Cert.ReferenceIdeal.Gen Cert.Proof.Window Cert.Proof.Array Cert.Proof.Prefix Cert.Proof.Extended

/-- A word at every position. -/
def word (c : BitVec 32) : IVec S4096 32 := broadcastInDim S4096 ![] bcast_S_S4096 (constantI S_ 32 c)

/-- The position after each one: where its window ends. -/
def ends : IVec S4096 32 := addi (iotaInDim S4096 32 0) (word 1#32)

/-- Where the window of each position begins. -/
def begins : IVec S4096 32 := maxsi (broadcastInDim S4096 ![] bcast_S_S4096 (id (constantI S_ 32 0#32))) (addi (subi (iotaInDim S4096 32 0) (word 128#32)) (word 1#32))

/-- The positions as a gather takes them: a negative one counts from the end. -/
def wrap (i : IVec S4096 32) : IVec S4096x1 32 :=
  broadcastInDim S4096x1 ![0] bcast_S4096_S4096x1_0 (select (cmpi .slt i (word 0#32)) (addi i (word 4097#32)) i)

/-- The number of entries in each window, at least one. -/
def counts : FVec Ideal S4096 .f32 :=
  maximumf (sitofp .f32 (addi (subi (iotaInDim S4096 32 0) begins) (word 1#32))) (broadcastInDim S4096 ![] bcast_S_S4096 (constant S_ .f32 0x3F800000#32))

/-- The windows' sums: the running sum where a window ends less the running sum where it begins. -/
def sums (X : FVec Ideal S32x4096x256 .f32) : FVec Ideal S32x4096x256 .f32 :=
  subf (Host.gather gather_S32x4097x256_S4096x1_S32x4096x256_02_1_n_n_1_1_321256 (running X) (wrap ends)) (Host.gather gather_S32x4097x256_S4096x1_S32x4096x256_02_1_n_n_1_1_321256 (running X) (wrap begins))

/-- The windows' means. -/
def means (X : FVec Ideal S32x4096x256 .f32) : FVec Ideal S32x4096x256 .f32 :=
  Host.divf (sums X) (broadcastInDim S32x4096x256 ![0, 1, 2] bcast_S1x4096x1_S32x4096x256_0_1_2 (broadcastInDim S1x4096x1 ![1] bcast_S4096_S1x4096x1_1 counts))

/-- The reference's result out of its three arguments. -/
def whole (x : FVec Ideal S32x4096x256 .f32) (w b : FVec Ideal S256 .f32) : FVec Ideal S32x4096x256 .f32 :=
  addf (mulf (Host.divf (subf x (means x)) (Host.sqrt (addf (subf (means (mulf x x)) (mulf (means x) (means x))) (broadcastInDim S32x4096x256 ![] bcast_S_S32x4096x256 (constant S_ .f32 0x3727C5AC#32)))))
    (broadcastInDim S32x4096x256 ![0, 1, 2] bcast_S1x1x256_S32x4096x256_0_1_2 (broadcastInDim S1x1x256 ![2] bcast_S256_S1x1x256_2 w)))
    (broadcastInDim S32x4096x256 ![0, 1, 2] bcast_S1x1x256_S32x4096x256_0_1_2 (broadcastInDim S1x1x256 ![2] bcast_S256_S1x1x256_2 b))

/-- The run's result is that function of the arguments. -/
theorem res_eq (m : (ℓ : Loc nD τ sig) → Buf (Elt Ideal) ℓ) (c : Dev nD) :
    Value.res_out0 m c = whole (m ((c : Thread nD τ).loc main_arg0)) (m ((c : Thread nD τ).loc main_arg1)) (m ((c : Thread nD τ).loc main_arg2)) := rfl

/-- A window ends one past its position. -/
theorem ends_apply (t : Fin 4096) : ends (ix1 t) = BitVec.ofNat 32 (t.val + 1) := by
  unfold ends word
  pointwise
  exact (BitVec.ofNat_add t.val 1).symm

/-- A window begins 127 before its position, or at the start. -/
theorem begins_apply (t : Fin 4096) : begins (ix1 t) = BitVec.ofNat 32 (t.val - 127) := by
  have ht := t.isLt
  unfold begins word
  pointwise
  exact (by decide +kernel : ∀ t : Fin 4096, IntOp.maxsi 0#32 (IntOp.addi (IntOp.subi (BitVec.ofNat 32 t.val) 128#32) 1#32)
    = BitVec.ofNat 32 (t.val - 127)) t

/-- A position that is not negative is taken as it stands. -/
theorem wrap_apply (i : IVec S4096 32) (t : Fin 4096) (q : ℕ) (hq : q < 4097) (hi : i (ix1 t) = BitVec.ofNat 32 q) :
    wrap i (ix2 t (0 : Fin 1)) = BitVec.ofNat 32 q := by
  unfold wrap word
  pointwise
  rw [hi]
  word_cmp
  rw [if_neg (Nat.not_lt_zero q)]

/-- The number of entries in a window. -/
theorem counts_apply (t : Fin 4096) : counts (ix1 t) = (Window.count t.val : EReal) := by
  have ht := t.isLt
  unfold counts word
  pointwise
  rw [begins_apply]
  have h : IntOp.addi (IntOp.subi (BitVec.ofNat 32 t.val) (BitVec.ofNat 32 (t.val - 127))) 1#32 = BitVec.ofNat 32 (t.val + 1 - (t.val - 127)) :=
    (by decide +kernel : ∀ t : Fin 4096, IntOp.addi (IntOp.subi (BitVec.ofNat 32 t.val) (BitVec.ofNat 32 (t.val - 127))) 1#32
      = BitVec.ofNat 32 (t.val + 1 - (t.val - 127))) t
  rw [h]
  show max (((BitVec.ofNat 32 (t.val + 1 - (t.val - 127))).toInt : ℝ) : EReal) 1 = _
  rw [StableHlo.Predicate.toInt_ofNat_small _ (by omega)]
  show max ((Window.count t.val : ℝ) : EReal) ((1 : ℝ) : EReal) = _
  refine max_eq_left (EReal.coe_le_coe_iff.2 ?_)
  unfold Window.count
  exact_mod_cast (by omega : 1 ≤ t.val + 1 - (t.val - 127))

/-- The sum over a window of real entries. -/
theorem sums_apply {X : FVec Ideal S32x4096x256 .f32} (f : Fin 32 → Fin 256 → ℕ → ℝ)
    (hX : ∀ n (t : Fin 4096) d, X (ix3 n t d) = (f n d t.val : EReal)) (n : Fin 32) (t : Fin 4096) (d : Fin 256) :
    sums X (ix3 n t d) = (wsum (f n d) t.val : EReal) := by
  have ht := t.isLt
  unfold sums
  show Host.gather _ _ _ (ix3 n t d) - Host.gather _ _ _ (ix3 n t d) = (_ : EReal)
  rw [gather_apply _ _ n t d ⟨t.val + 1, by omega⟩ (wrap_apply _ t _ (by omega) (ends_apply t)),
    gather_apply _ _ n t d ⟨t.val - 127, by omega⟩ (wrap_apply _ t _ (by omega) (begins_apply t)),
    running_apply (fun n d s => (f n d s : EReal)) hX, running_apply (fun n d s => (f n d s : EReal)) hX,
    ← coe_sum, ← coe_sum, ← EReal.coe_sub, prefix_sub]

/-- The mean over a window of real entries. -/
theorem means_apply {X : FVec Ideal S32x4096x256 .f32} (f : Fin 32 → Fin 256 → ℕ → ℝ)
    (hX : ∀ n (t : Fin 4096) d, X (ix3 n t d) = (f n d t.val : EReal)) (n : Fin 32) (t : Fin 4096) (d : Fin 256) :
    means X (ix3 n t d) = (wmean (f n d) t.val : EReal) := by
  unfold means
  pointwise
  rw [sums_apply f hX, counts_apply]
  show Ideal.div _ _ = _
  rw [Ideal.div_coe (count_pos t.val).ne', ← EReal.coe_mul]
  unfold wmean
  rw [mul_one_div]

/-- The reference's result at an index. -/
theorem whole_apply {x : FVec Ideal S32x4096x256 .f32} (hx : IsReal x) (w b : FVec Ideal S256 .f32) (n : Fin 32) (t : Fin 4096) (d : Fin 256) :
    whole x w b (ix3 n t d) = (norm (seq x n d) t.val : EReal) * w (ix1 d) + b (ix1 d) := by
  have h1 := means_apply (seq x) (fun n t d => seq_apply hx n t d) n t d
  have h2 := means_apply (X := mulf x x) (fun n d s => seq x n d s * seq x n d s) (fun n t d => by
    show x (ix3 n t d) * x (ix3 n t d) = _
    rw [seq_apply hx, ← EReal.coe_mul]) n t d
  unfold whole
  pointwise
  rw [h1, h2, seq_apply hx, norm_sqrt]

/-- The reference's result. -/
theorem whole_eq {x : FVec Ideal S32x4096x256 .f32} (hx : IsReal x) (w b : FVec Ideal S256 .f32) : whole x w b = result x w b := by
  funext i
  rw [eq_ix3 i]
  exact whole_apply hx w b (i 0) (i 1) (i 2)

end Cert.Proof.Reference
-- ==== Proof.Finite.lean ====
/- What the precondition says: where it holds, every entry of the first argument is a real number. -/
module

public import proofs.«01_k».proof.Pre_finite
public import proofs.«01_k».proof.Proof.Array
public import Idealize.ShloMosaic.Lib.ReduceAll
public import Idealize.ShloMosaic.Lib.StableHlo.Predicate

@[expose] public section

noncomputable section

namespace Cert.Proof.Finite

open Idealize.ShloMosaic Cert.Pre_finite

/-- The side conditions of the precondition's operations hold. -/
theorem facts : Cert.Pre_finite.Facts where
  bcast_S_S32x4096x256 := by decide
  reducesTo_S32x4096x256_S_d0_1_2 := by decide
  h_S_ := by decide

/-- An extended real whose absolute value is below the infinity is a real number. -/
theorem real_of_abs_lt (v : EReal) (h : max v (-v) < ⊤) : v = (v.toReal : EReal) := by
  refine (EReal.coe_toReal ?_ ?_).symm
  · rintro rfl
    simp at h
  · rintro rfl
    simp at h

/-- Where the precondition holds, every entry of the first argument is a real number. -/
theorem isReal [Cert.Pre_finite.Facts] (x : FVec Ideal S32x4096x256 .f32) (w b : FVec Ideal S256 .f32)
    (h : Cert.Pre_finite.fn (F := Ideal) x w b = fun _ => 1#1) : Cert.Proof.Array.IsReal x := by
  intro i
  have : Subsingleton S_.Idx := ⟨fun a b => funext fun k => k.elim0⟩
  have e := Host.reduce_andi_all _ _ _ _ (Shape.Idx.first Facts.h_S_) (congrFun h (Shape.Idx.first Facts.h_S_)) i
  have hi : broadcastInDim S32x4096x256 ![] Facts.bcast_S_S32x4096x256 (constant S_ .f32 0x7F800000#32 : FVec Ideal S_ .f32) i = (⊤ : EReal) := by
    pointwise
    simp [Ideal.ofBits, Ideal.ieee]
  refine real_of_abs_lt _ ?_
  rw [← hi]
  exact of_decide_eq_true ((StableHlo.Predicate.ofBool_eq_one_iff _).1 e)

end Cert.Proof.Finite
-- ==== Proof.lean ====
/- The certificate: the kernel, at machine floats and at exact ones, and the reference leave their arguments unchanged and
   their counters at zero, and at exact floats the kernel and the reference return the same array. -/
module

public import proofs.«01_k».proof.Defs
public import proofs.«01_k».proof.Proof.Gen.Kernel.Frame
public import proofs.«01_k».proof.Proof.Gen.KernelIdeal.Frame
public import proofs.«01_k».proof.Proof.Reference
public import proofs.«01_k».proof.Proof.Finite
public import Idealize.ShloMosaic.Lib.Quiescent

@[expose] public section

noncomputable section

namespace Cert.Proof

open Idealize.ShloMosaic Idealize.SL.Sem

/-- The reference leaves its arguments unchanged and its counters at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- At exact floats, on a first argument of real numbers, the kernel and the reference return the same array. -/
theorem same_result : Cert.algebraic_KernelIdeal_ReferenceIdeal_pre_finite (hKernelIdeal := Cert.KernelIdeal.Gen.facts)
    (hReferenceIdeal := Cert.ReferenceIdeal.Gen.facts) (hPre_finite := Finite.facts) := by
  intro m g m' g' hpre hagree
  have hx := fun c => @Finite.isReal Finite.facts _ _ _ (hpre c)
  refine ⟨_, (θ_run Cert.KernelIdeal.defs _ _).mono (fun r h c => ⟨(h c).1.trans (Array.final m c (hx c)), (h c).2⟩)
      (Cert.KernelIdeal.Value.run_blocks m g),
    (θ_run Cert.ReferenceIdeal.defs _ _).mono (fun r h c => ⟨(h c).1.trans ?_, (h c).2⟩) (Cert.ReferenceIdeal.Value.run m' g')⟩
  refine (Reference.res_eq m' c).trans ?_
  obtain ⟨h0, h1, h2⟩ := hagree c
  rw [h0, h1, h2]
  exact Reference.whole_eq (hx c) _ _

/-- Everything the certificate claims. -/
theorem claim : Cert.Claim :=
  ⟨Cert.Kernel.Gen.facts, Cert.KernelIdeal.Gen.facts, Cert.ReferenceIdeal.Gen.facts, Finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, same_result⟩

end Cert.Proof

end
